-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x65536 : Shape := ⟨2, ![64, 65536]⟩
abbrev S2x65536x768 : Shape := ⟨3, ![2, 65536, 768]⟩
abbrev S2x768 : Shape := ⟨2, ![2, 768]⟩
abbrev S1x1536 : Shape := ⟨2, ![1, 1536]⟩
abbrev S64x1536 : Shape := ⟨2, ![64, 1536]⟩
abbrev S64x2x768 : Shape := ⟨3, ![64, 2, 768]⟩
abbrev S64x2048 : Shape := ⟨2, ![64, 2048]⟩
abbrev S1x2048x768 : Shape := ⟨3, ![1, 2048, 768]⟩
abbrev S2048x768 : Shape := ⟨2, ![2048, 768]⟩
abbrev S64x768 : Shape := ⟨2, ![64, 768]⟩
abbrev S1x768 : Shape := ⟨2, ![1, 768]⟩

abbrev nBuf : Space → Nat
  | .hbm => 6
  | .vmem => 8
  | .smem => 0
  | _ => 0

abbrev bufTy : (tb : Table) → Fin (tcTables nBuf tb) → BufTy
  | .hbm, ⟨0, _⟩ => ⟨S64x65536, .f32⟩
  | .hbm, ⟨1, _⟩ => ⟨S2x65536x768, .f32⟩
  | .hbm, ⟨2, _⟩ => ⟨S2x768, .f32⟩
  | .hbm, ⟨3, _⟩ => ⟨S1x1536, .f32⟩
  | .hbm, ⟨4, _⟩ => ⟨S64x1536, .f32⟩
  | .hbm, ⟨5, _⟩ => ⟨S64x2x768, .f32⟩
  | .local _ .vmem, ⟨0, _⟩ => ⟨S64x2048, .f32⟩
  | .local _ .vmem, ⟨1, _⟩ => ⟨S64x2048, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S1x1536, .f32⟩
  | .local _ .vmem, ⟨7, _⟩ => ⟨S64x1536, .f32⟩
  | _, _ => ⟨S64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg0 : BitVec 32 := BitVec.ofNat 32 (i 0).val
  let c0_i32_5 : BitVec 32 := 0#32
  let v7 : BitVec 1 := Scalar.cmpi .ne arg0 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg0 : BitVec 32 := BitVec.ofNat 32 (i 0).val
  let c0_i32_13 : BitVec 32 := 0#32
  let v14 : BitVec 1 := Scalar.cmpi .eq arg0 c0_i32_13
  let v15 : BitVec 32 := Scalar.extui v14
  let c0_i32_14 : BitVec 32 := 0#32
  let v16 : BitVec 1 := Scalar.cmpi .ne v15 c0_i32_14
  v16

def k0_cond4 (i : grid0.Coords) : BitVec 1 :=
  let arg0 : BitVec 32 := BitVec.ofNat 32 (i 0).val
  let c0_i32_15 : BitVec 32 := 0#32
  let v17 : BitVec 1 := Scalar.cmpi .ne arg0 c0_i32_15
  let v18 : BitVec 32 := Scalar.extui v17
  let c0_i32_16 : BitVec 32 := 0#32
  let v19 : BitVec 1 := Scalar.cmpi .ne v18 c0_i32_16
  v19

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S64x65536 : Shape := ⟨2, ![64, 65536]⟩
abbrev S2x65536x768 : Shape := ⟨3, ![2, 65536, 768]⟩
abbrev S2x768 : Shape := ⟨2, ![2, 768]⟩
abbrev S64x2x768 : Shape := ⟨3, ![64, 2, 768]⟩
abbrev S1x2x768 : Shape := ⟨3, ![1, 2, 768]⟩

abbrev nBuf : Space → Nat
  | .hbm => 7
  | .vmem => 0
  | .smem => 0
  | _ => 0

abbrev bufTy : (tb : Table) → Fin (tcTables nBuf tb) → BufTy
  | .hbm, ⟨0, _⟩ => ⟨S64x65536, .f32⟩
  | .hbm, ⟨1, _⟩ => ⟨S2x65536x768, .f32⟩
  | .hbm, ⟨2, _⟩ => ⟨S2x768, .f32⟩
  | .hbm, ⟨3, _⟩ => ⟨S64x2x768, .f32⟩
  | .hbm, ⟨4, _⟩ => ⟨S1x2x768, .f32⟩
  | .hbm, ⟨5, _⟩ => ⟨S64x2x768, .f32⟩
  | .hbm, ⟨6, _⟩ => ⟨S64x2x768, .f32⟩
  | _, _ => ⟨S64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Sums.lean ====
/- The decoder's arithmetic on whole arrays: one block's term, the total after some blocks, and the
   total after all 32 of them, which is the sum over all 65536 features. -/
module

public import Idealize.ShloMosaic.Lib.ValueIdx

@[expose] public section

noncomputable section

namespace Cert.KernelIdeal.Decoder

open Idealize.ShloMosaic Idealize.ShloMosaic.ValueIdx

/-- The features: 64 rows of 65536. -/
abbrev Feats := (⟨2, ![64, 65536]⟩ : Shape).Idx → EReal
/-- The weights: for each of two layers, 65536 features by 768 columns. -/
abbrev Weights := (⟨3, ![2, 65536, 768]⟩ : Shape).Idx → EReal
/-- The bias: 768 columns for each layer. -/
abbrev Bias := (⟨2, ![2, 768]⟩ : Shape).Idx → EReal
/-- The wide result: 64 rows of 1536 columns, column `n` being column `n % 768` of layer `n / 768`. -/
abbrev Wide := (⟨2, ![64, 1536]⟩ : Shape).Idx → EReal

/-- The layer's column that column `n` of the wide row stands for. -/
def layerCol (n : ℕ) : Fin 768 := ⟨n % 768, Nat.mod_lt _ (by omega)⟩

/-- The layer column `n` of the wide row belongs to. -/
def layer (n : ℕ) : Fin 2 := ⟨n / 768 % 2, Nat.mod_lt _ (by omega)⟩

/-- Feature `k` of block `s`. -/
def feat (s : ℕ) (k : Fin 2048) : Fin 65536 := ⟨(s * 2048 + k.val) % 65536, Nat.mod_lt _ (by omega)⟩

/-- In one of the 32 blocks the feature number is `2048 * s + k`. -/
theorem feat_val (s : ℕ) (k : Fin 2048) (hs : s < 32) : (feat s k).val = s * 2048 + k.val := by
  have := k.isLt
  show (s * 2048 + k.val) % 65536 = _
  omega

/-- What block `s` contributes to an entry of the wide result. -/
def blockTerm (f : Feats) (w : Weights) (s : ℕ) : Wide := fun i =>
  ∑ k : Fin 2048, f (ix2 (i 0) (feat s k)) * w (ix3 (layer (i 1).val) (feat s k) (layerCol (i 1).val))

/-- The wide result after the first `n` blocks: the bias plus their contributions. -/
def upTo (f : Feats) (w : Weights) (b : Bias) (n : ℕ) : Wide := fun i =>
  b (ix2 (layer (i 1).val) (layerCol (i 1).val)) + ∑ s ∈ Finset.range n, blockTerm f w s i

/-- After the first block: the bias plus its contribution. -/
theorem upTo_one (f : Feats) (w : Weights) (b : Bias) (i : (⟨2, ![64, 1536]⟩ : Shape).Idx) :
    upTo f w b 1 i = b (ix2 (layer (i 1).val) (layerCol (i 1).val)) + blockTerm f w 0 i := by
  unfold upTo
  rw [Finset.sum_range_one]

/-- One more block adds its contribution. -/
theorem upTo_succ (f : Feats) (w : Weights) (b : Bias) (n : ℕ) (i : (⟨2, ![64, 1536]⟩ : Shape).Idx) :
    upTo f w b (n + 1) i = upTo f w b n i + blockTerm f w n i := by
  unfold upTo
  rw [Finset.sum_range_succ, add_assoc]

/-- A sum over 65536 features is the sum over 32 blocks of the sums over each block. -/
theorem sum_feat (g : Fin 65536 → EReal) :
    ∑ s ∈ Finset.range 32, ∑ k : Fin 2048, g (feat s k) = ∑ k : Fin 65536, g k := by
  rw [← Equiv.sum_comp ((finProdFinEquiv (m := 32) (n := 2048)).trans (finCongr (by norm_num))) g, Fintype.sum_prod_type, Finset.sum_range]
  refine Finset.sum_congr rfl fun s _ => Finset.sum_congr rfl fun k _ => congrArg g (Fin.ext ?_)
  rw [feat_val _ _ s.isLt]
  show _ = k.val + 2048 * s.val
  omega

/-- The result the decoder computes: for each row, layer and column, the product summed over all
    features, plus the bias. -/
def decoded (f : Feats) (w : Weights) (b : Bias) (r : Fin 64) (l : Fin 2) (d : Fin 768) : EReal :=
  (∑ k : Fin 65536, f (ix2 r k) * w (ix3 l k d)) + b (ix2 l d)

/-- After all 32 blocks the wide result holds the decoder's result, layer `l` in columns
    `768 * l` to `768 * l + 767`. -/
theorem upTo_all (f : Feats) (w : Weights) (b : Bias) (i : (⟨2, ![64, 1536]⟩ : Shape).Idx) :
    upTo f w b 32 i = decoded f w b (i 0) (layer (i 1).val) (layerCol (i 1).val) := by
  unfold upTo decoded blockTerm
  rw [sum_feat (fun k => f (ix2 (i 0) k) * w (ix3 (layer (i 1).val) k (layerCol (i 1).val))), add_comm]

end Cert.KernelIdeal.Decoder

end
-- ==== Proof.Products.lean ====
/- What one grid point adds: the product of a block of 2048 features with the matching block of each
   layer's weights, the two layers' products lying side by side in a row of 1536 columns. Column `n` of
   that row is column `n % 768` of layer `n / 768`. -/
module

public import proofs.«01_k».proof.Proof.Gen.KernelIdeal.Skeleton
public import Idealize.ShloMosaic.Lib.Pipeline.Value
public import Idealize.ShloMosaic.Lib.MatmulPlain
public import Idealize.ShloMosaic.Lib.ValueLayout
public import Idealize.ShloMosaic.Lib.ValueIdx
public import proofs.«01_k».proof.Proof.Sums

@[expose] public section
set_option maxRecDepth 16384

noncomputable section

namespace Cert.KernelIdeal.Decoder

open Cert.KernelIdeal Cert.KernelIdeal.Gen Idealize.ShloMosaic
open Idealize.ShloMosaic.ValueIdx

/-- Row `r`, column `d` of one layer's block product: the sum over the block's 2048 features. -/
def blockProd (x : Vec Ideal S64x2048 .f32) (w : Vec Ideal S1x2048x768 .f32) (r : Fin 64) (d : Fin 768) : EReal :=
  ∑ k : Fin 2048, x (ix2 r k) * w (ix3 0 k d)

/-- Both layers' block products side by side. -/
def bothProds (x : Vec Ideal S64x2048 .f32) (w0 w1 : Vec Ideal S1x2048x768 .f32) : Vec Ideal S64x1536 .f32 := fun i =>
  blockProd x (if (i 1).val < 768 then w0 else w1) (i 0) (layerCol (i 1).val)

/-- The kernel's product of two blocks, entry by entry. -/
theorem pay1_apply (x : Vec Ideal S64x2048 .f32) (w : Vec Ideal S1x2048x768 .f32) (r : Fin 64) (d : Fin 768) :
    k0_pay1 x w (ix2 r d) = blockProd x w r d := by
  refine (Ideal.matmul_plain_apply none x _ _ r d).trans ?_
  show Ideal.ofBits .f32 0x00000000#32 + _ = _
  rw [Ideal.ofBits_zero_f32, zero_add]
  exact Finset.sum_congr rfl fun k _ => by rw [shapeCast_1ab_ab_apply]

/-- The first point's store: the product plus the bias row it loaded. -/
theorem pay2_apply (x : Vec Ideal S64x2048 .f32) (w : Vec Ideal S1x2048x768 .f32) (b : Vec Ideal S1x768 .f32) (r : Fin 64) (d : Fin 768) :
    k0_pay2 x w b (ix2 r d) = b (ix2 0 d) + blockProd x w r d := by
  show k0_pay1 x w (ix2 r d) + broadcastTo S64x768 (shapeCast S1x768 b shapeCasts_S1x768_S1x768) broadcasts_S1x768_S64x768 (ix2 r d) = _
  rw [pay1_apply, shapeCast_self, broadcastTo_1b_ab_apply, add_comm]

/-- A later point's store: what was there plus the product. -/
theorem pay3_apply (x : Vec Ideal S64x2048 .f32) (w : Vec Ideal S1x2048x768 .f32) (o : Vec Ideal S64x768 .f32) (r : Fin 64) (d : Fin 768) :
    k0_pay3 x w o (ix2 r d) = o (ix2 r d) + blockProd x w r d := by
  show shapeCast S64x768 o shapeCasts_S64x768_S64x768 (ix2 r d) + k0_pay1 x w (ix2 r d) = _
  rw [pay1_apply, shapeCast_self]

/-- The second layer's store at the first point: its product plus its part of the bias row. -/
theorem pay5_apply (x : Vec Ideal S64x2048 .f32) (w : Vec Ideal S1x2048x768 .f32) (b : Vec Ideal S1x768 .f32) (r : Fin 64) (d : Fin 768) :
    k0_pay5 x w b (ix2 r d) = b (ix2 0 d) + blockProd x w r d := pay2_apply x w b r d

/-- The second layer's store at a later point: what was there plus its product. -/
theorem pay6_apply (x : Vec Ideal S64x2048 .f32) (w : Vec Ideal S1x2048x768 .f32) (o : Vec Ideal S64x768 .f32) (r : Fin 64) (d : Fin 768) :
    k0_pay6 x w o (ix2 r d) = o (ix2 r d) + blockProd x w r d := pay3_apply x w o r d

/-- In the first 768 columns the wide row holds the first layer's product. -/
theorem bothProds_left (x : Vec Ideal S64x2048 .f32) (w0 w1 : Vec Ideal S1x2048x768 .f32) (i : S64x1536.Idx) (r : Fin 64) (d : Fin 768)
    (h0 : (i 0).val = r.val) (h1 : (i 1).val = d.val) : bothProds x w0 w1 i = blockProd x w0 r d := by
  have hd := d.isLt
  have e0 : i 0 = r := Fin.ext h0
  have e1 : layerCol (i 1).val = d := Fin.ext (show (i 1).val % 768 = d.val by rw [h1]; omega)
  unfold bothProds
  rw [if_pos (by omega), e0, e1]

/-- In the last 768 columns it holds the second layer's. -/
theorem bothProds_right (x : Vec Ideal S64x2048 .f32) (w0 w1 : Vec Ideal S1x2048x768 .f32) (i : S64x1536.Idx) (r : Fin 64) (d : Fin 768)
    (h0 : (i 0).val = r.val) (h1 : (i 1).val = 768 + d.val) : bothProds x w0 w1 i = blockProd x w1 r d := by
  have hd := d.isLt
  have e0 : i 0 = r := Fin.ext h0
  have e1 : layerCol (i 1).val = d := Fin.ext (show (i 1).val % 768 = d.val by rw [h1]; omega)
  unfold bothProds
  rw [if_neg (by omega), e0, e1]

end Cert.KernelIdeal.Decoder

end
-- ==== Proof.Body.lean ====
/- What one grid point leaves in the output block: the first point stores the bias row plus both
   layers' block products, every later point adds its block products to what it found. -/
module

public import proofs.«01_k».proof.Proof.Gen.KernelIdeal.Frame
public import proofs.«01_k».proof.Proof.Products

@[expose] public section
set_option maxRecDepth 16384

noncomputable section

namespace Cert.KernelIdeal.Decoder

open Cert.KernelIdeal Cert.KernelIdeal.Gen Idealize.ShloMosaic Idealize.ShloMosaic.TcCoe Idealize.SL.Sem
open Idealize.ShloMosaic.ValueIdx

/-- A load or store through offsets that are all zero takes the whole block; these are those offsets. -/
theorem zeros2 : (![0, 0] : Fin 2 → Nat) = fun _ => 0 := funext fun a => by fin_cases a <;> rfl
/-- The same on three axes. -/
theorem zeros3 : (![0, 0, 0] : Fin 3 → Nat) = fun _ => 0 := funext fun a => by fin_cases a <;> rfl

/-- Two stores, one into the first 768 columns and one into the last 768, leave a block `G` when
    each stores `G`'s columns. -/
theorem two_halves (G : Vec Ideal S64x1536 .f32) (p q : Vec Ideal S64x768 .f32)
    (hp : ∀ (r : Fin 64) (d : Fin 768), p (ix2 r d) = G (ix2 r ⟨768 + d.val, by have := d.isLt; omega⟩))
    (hq : ∀ (r : Fin 64) (d : Fin 768), q (ix2 r d) = G (ix2 r ⟨d.val, by have := d.isLt; omega⟩)) :
    View.canon (Val := Elt Ideal) (s := S64x1536) (e := .f32)
      [⟨Rect.unit ![0, 768] ![64, 768] inb_S64x1536_S64x768_0_768, p⟩,
       ⟨Rect.unit ![0, 0] ![64, 768] inb_S64x1536_S64x768_0_0, q⟩] = G := by
  funext y
  refine View.canon_apply_of_pieces G _ (fun pc hpc => ?_) y ?_
  · rcases List.mem_cons.mp hpc with rfl | hpc
    · intro x
      rw [eq_ix2 x]
      refine (hp _ _).trans (congrArg G (funext fun a => Fin.ext ?_))
      match a with
      | ⟨0, _⟩ => show (x 0).val = 0 + 1 * (x 0).val; omega
      | ⟨1, _⟩ => show 768 + (x 1).val = 768 + 1 * (x 1).val; omega
    · rcases List.mem_cons.mp hpc with rfl | hpc
      · intro x
        rw [eq_ix2 x]
        refine (hq _ _).trans (congrArg G (funext fun a => Fin.ext ?_))
        match a with
        | ⟨0, _⟩ => show (x 0).val = 0 + 1 * (x 0).val; omega
        | ⟨1, _⟩ => show (x 1).val = 0 + 1 * (x 1).val; omega
      · exact absurd hpc (List.not_mem_nil)
  · have h0 : (y 0).val < 64 := (y 0).isLt
    have h1 : (y 1).val < 1536 := (y 1).isLt
    by_cases h : (y 1).val < 768
    · refine ⟨_, List.mem_cons_of_mem _ (List.mem_singleton.mpr rfl), ?_⟩
      rw [Rect.mem_set_unit]
      intro a
      match a with
      | ⟨0, _⟩ => show 0 ≤ (y 0).val ∧ (y 0).val < 0 + 64; omega
      | ⟨1, _⟩ => show 0 ≤ (y 1).val ∧ (y 1).val < 0 + 768; omega
    · refine ⟨_, List.mem_cons_self, ?_⟩
      rw [Rect.mem_set_unit]
      intro a
      match a with
      | ⟨0, _⟩ => show 0 ≤ (y 0).val ∧ (y 0).val < 0 + 64; omega
      | ⟨1, _⟩ => show 768 ≤ (y 1).val ∧ (y 1).val < 768 + 768; omega

/-- The first point leaves the bias row plus both layers' block products. -/
theorem out_first (c : Dev nD) (i : grid0.Coords) (arg1 : Memref sig .tc .vmem S64x2048 .f32) (harg1 : arg1.IsWhole)
    (arg2 : Memref sig .tc .vmem S1x2048x768 .f32) (harg2 : arg2.IsWhole) (arg3 : Memref sig .tc .vmem S1x2048x768 .f32) (harg3 : arg3.IsWhole)
    (arg4 : Memref sig .tc .vmem S1x1536 .f32) (harg4 : arg4.IsWhole) (arg5 : Memref sig .tc .vmem S64x1536 .f32) (harg5 : arg5.IsWhole)
    (hc0 : cond0_0 i) (hc1 : ¬cond0_1 i) (hc2 : cond0_2 i) (hc3 : ¬cond0_3 i)
    (x0 : Vec Ideal S64x2048 .f32) (x1 x2 : Vec Ideal S1x2048x768 .f32) (x3 : Vec Ideal S1x1536 .f32) :
    out0_A_4 c i arg1 harg1 arg2 harg2 arg3 harg3 arg4 harg4 arg5 harg5 hc0 hc1 hc2 hc3 x0 x1 x2 x3
      = fun j => x3 (ix2 0 (j 1)) + bothProds x0 x1 x2 j := by
  unfold out0_A_4
  rw [View.read_writes_eq_canon _ _ _ (cover0_A_4 c i arg1 harg1 arg2 harg2 arg3 harg3 arg4 harg4 arg5 harg5 hc0 hc1 hc2 hc3 x0 x1 x2 x3)]
  unfold kernelRun0_A
  dsimp only
  sl_unfold_words
  simp only [View.readAt_eq_ld, harg1.read_unread, harg2.read_unread, harg3.read_unread, harg4.read_unread, harg5.read_unread]
  rw [View.ld_unit_zero (S := S64x2048) zeros2, View.ld_unit_zero (S := S1x2048x768) zeros3, View.ld_unit_zero (S := S1x2048x768) zeros3]
  refine two_halves _ _ _ (fun r d => ?_) (fun r d => ?_)
  · rw [pay5_apply]
    rw [bothProds_right x0 x1 x2 _ r d rfl rfl]
    refine congrArg (· + _) (congrArg x3 (funext fun a => Fin.ext ?_))
    match a with
    | ⟨0, _⟩ => rfl
    | ⟨1, _⟩ => show 768 + 1 * d.val = 768 + d.val; omega
  · rw [pay2_apply]
    rw [bothProds_left x0 x1 x2 _ r d rfl rfl]
    refine congrArg (· + _) (congrArg x3 (funext fun a => Fin.ext ?_))
    match a with
    | ⟨0, _⟩ => rfl
    | ⟨1, _⟩ => show 0 + 1 * d.val = d.val; omega

/-- A later point adds both layers' block products to what it found. -/
theorem out_later (c : Dev nD) (i : grid0.Coords) (arg1 : Memref sig .tc .vmem S64x2048 .f32) (harg1 : arg1.IsWhole)
    (arg2 : Memref sig .tc .vmem S1x2048x768 .f32) (harg2 : arg2.IsWhole) (arg3 : Memref sig .tc .vmem S1x2048x768 .f32) (harg3 : arg3.IsWhole)
    (arg4 : Memref sig .tc .vmem S1x1536 .f32) (harg4 : arg4.IsWhole) (arg5 : Memref sig .tc .vmem S64x1536 .f32) (harg5 : arg5.IsWhole)
    (hc0 : ¬cond0_0 i) (hc1 : cond0_1 i) (hc2 : ¬cond0_2 i) (hc3 : cond0_3 i)
    (x0 : Vec Ideal S64x2048 .f32) (x1 x2 : Vec Ideal S1x2048x768 .f32) (x3 : Vec Ideal S1x1536 .f32) (xo : Vec Ideal S64x1536 .f32) :
    out0_B_4 c i arg1 harg1 arg2 harg2 arg3 harg3 arg4 harg4 arg5 harg5 hc0 hc1 hc2 hc3 x0 x1 x2 x3 xo
      = fun j => xo j + bothProds x0 x1 x2 j := by
  unfold out0_B_4
  rw [View.read_writes_eq_canon _ _ _ (cover0_B_4 c i arg1 harg1 arg2 harg2 arg3 harg3 arg4 harg4 arg5 harg5 hc0 hc1 hc2 hc3 x0 x1 x2 x3 xo)]
  unfold kernelRun0_B
  dsimp only
  sl_unfold_words
  simp only [View.readAt_eq_ld, harg1.read_unread, harg2.read_unread, harg3.read_unread, harg4.read_unread, harg5.read_unread]
  rw [View.ld_unit_zero (S := S64x2048) zeros2, View.ld_unit_zero (S := S1x2048x768) zeros3, View.ld_unit_zero (S := S1x2048x768) zeros3]
  refine two_halves _ _ _ (fun r d => ?_) (fun r d => ?_)
  · rw [pay6_apply]
    rw [bothProds_right x0 x1 x2 _ r d rfl rfl]
    refine congrArg (· + _) (congrArg xo (funext fun a => Fin.ext ?_))
    match a with
    | ⟨0, _⟩ => show 0 + 1 * r.val = r.val; omega
    | ⟨1, _⟩ => show 768 + 1 * d.val = 768 + d.val; omega
  · rw [pay3_apply]
    rw [bothProds_left x0 x1 x2 _ r d rfl rfl]
    refine congrArg (· + _) (congrArg xo (funext fun a => Fin.ext ?_))
    match a with
    | ⟨0, _⟩ => show 0 + 1 * r.val = r.val; omega
    | ⟨1, _⟩ => show 0 + 1 * d.val = d.val; omega

end Cert.KernelIdeal.Decoder

end
-- ==== Proof.Windows.lean ====
/- What each input window's block holds at a grid point, as entries of the kernel's arguments: block `t`
   of the features, block `t` of each layer's weights, and the bias laid out as one row. -/
module

public import proofs.«01_k».proof.Proof.Gen.KernelIdeal.Frame
public import Idealize.ShloMosaic.Lib.Pipeline.Value
public import Idealize.ShloMosaic.Lib.ValueIdx
public import Idealize.ShloMosaic.Lib.Claim
public import proofs.«01_k».proof.Proof.Sums

@[expose] public section
set_option maxRecDepth 16384

noncomputable section

namespace Cert.KernelIdeal.Decoder

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The features given to the kernel on device `c`. -/
abbrev feats (c : Dev nD) : Feats := m ((c : Thread nD τ).loc main_arg0)
/-- The weights given to it. -/
abbrev weights (c : Dev nD) : Weights := m ((c : Thread nD τ).loc main_arg1)
/-- The bias given to it. -/
abbrev bias (c : Dev nD) : Bias := m ((c : Thread nD τ).loc main_arg2)

/-- At point `t` the features' window stands at block `t` of the columns. -/
theorem index0 : ∀ t : Fin grid0.N, win0_0.index t 0 = 0 ∧ win0_0.index t 1 = t.val := by decide +kernel
/-- The first weights' window stands at layer 0, block `t` of the features. -/
theorem index1 : ∀ t : Fin grid0.N, win0_1.index t 0 = 0 ∧ win0_1.index t 1 = t.val ∧ win0_1.index t 2 = 0 := by decide +kernel
/-- The second weights' window stands at layer 1, block `t` of the features. -/
theorem index2 : ∀ t : Fin grid0.N, win0_2.index t 0 = 1 ∧ win0_2.index t 1 = t.val ∧ win0_2.index t 2 = 0 := by decide +kernel
/-- The bias's window never moves. -/
theorem index3 : ∀ t : Fin grid0.N, win0_3.index t 0 = 0 ∧ win0_3.index t 1 = 0 := by decide +kernel

/-- Every point's number is below 32. -/
theorem point_lt (t : Fin cfg0.N) : t.val < 32 := lt_of_lt_of_eq t.isLt (show cfg0.N = 32 from N_0)

/-- The features' block. -/
theorem iblk0_apply (c : Dev nD) (t : Fin cfg0.N) (r : Fin 64) (k : Fin 2048) :
    (iblk m c 0 t : Vec Ideal S64x2048 .f32) (ix2 r k) = feats m c (ix2 r (feat t.val k)) := by
  have hi := index0 t
  have hf := feat_val t.val k (point_lt t)
  unfold iblk
  rw [View.read_apply]
  show V m c main_arg0 _ = _
  rw [V_main_arg0]
  refine congrArg (feats m c) (funext fun a => Fin.ext ?_)
  match a with
  | ⟨0, _⟩ => show win0_0.index t 0 * 64 + 1 * r.val = r.val; rw [hi.1]; omega
  | ⟨1, _⟩ => show win0_0.index t 1 * 2048 + 1 * k.val = (feat t.val k).val; rw [hi.2, hf]; omega

/-- The first layer's block of weights. -/
theorem iblk1_apply (c : Dev nD) (t : Fin cfg0.N) (k : Fin 2048) (d : Fin 768) :
    (iblk m c 1 t : Vec Ideal S1x2048x768 .f32) (ix3 0 k d) = weights m c (ix3 0 (feat t.val k) d) := by
  have hi := index1 t
  have hf := feat_val t.val k (point_lt t)
  unfold iblk
  rw [View.read_apply]
  show V m c main_arg1 _ = _
  rw [V_main_arg1]
  refine congrArg (weights m c) (funext fun a => Fin.ext ?_)
  match a with
  | ⟨0, _⟩ => show win0_1.index t 0 * 1 + 1 * 0 = 0; rw [hi.1]
  | ⟨1, _⟩ => show win0_1.index t 1 * 2048 + 1 * k.val = (feat t.val k).val; rw [hi.2.1, hf]; omega
  | ⟨2, _⟩ => show win0_1.index t 2 * 768 + 1 * d.val = d.val; rw [hi.2.2]; omega

/-- The second layer's block of weights. -/
theorem iblk2_apply (c : Dev nD) (t : Fin cfg0.N) (k : Fin 2048) (d : Fin 768) :
    (iblk m c 2 t : Vec Ideal S1x2048x768 .f32) (ix3 0 k d) = weights m c (ix3 1 (feat t.val k) d) := by
  have hi := index2 t
  have hf := feat_val t.val k (point_lt t)
  unfold iblk
  rw [View.read_apply]
  show V m c main_arg1 _ = _
  rw [V_main_arg1]
  refine congrArg (weights m c) (funext fun a => Fin.ext ?_)
  match a with
  | ⟨0, _⟩ => show win0_2.index t 0 * 1 + 1 * 0 = 1; rw [hi.1]
  | ⟨1, _⟩ => show win0_2.index t 1 * 2048 + 1 * k.val = (feat t.val k).val; rw [hi.2.1, hf]; omega
  | ⟨2, _⟩ => show win0_2.index t 2 * 768 + 1 * d.val = d.val; rw [hi.2.2]; omega

/-- The row the host lays the bias out in, when the grid starts. -/
theorem bias_row (c : Dev nD) : (V m c main_call0_v0 : Vec Ideal S1x1536 .f32) = shapeCast S1x1536 (bias m c) shapeCasts_S2x768_S1x1536 := by
  entry_read
  rfl

/-- The bias's block: column `n` of the row is the bias of layer `n / 768` at column `n % 768`. -/
theorem iblk3_apply (c : Dev nD) (t : Fin cfg0.N) (n : Fin 1536) :
    (iblk m c 3 t : Vec Ideal S1x1536 .f32) (ix2 0 n) = bias m c (ix2 (layer n.val) (layerCol n.val)) := by
  have hi := index3 t
  have hn := n.isLt
  unfold iblk
  rw [View.read_apply]
  show V m c main_call0_v0 _ = _
  rw [bias_row]
  refine (congrArg _ (funext fun a => Fin.ext ?_ : _ = (ix2 (0 : Fin 1) n : S1x1536.Idx))).trans (shapeCast_apply (s := S2x768) (t := S1x1536) _ _ _ _ ?_)
  · match a with
    | ⟨0, _⟩ => show win0_3.index t 0 * 1 + 1 * 0 = 0; rw [hi.1]
    | ⟨1, _⟩ => show win0_3.index t 1 * 1536 + 1 * n.val = n.val; rw [hi.2]; omega
  · rw [Shape.rowMajor_val_two, Shape.rowMajor_val_two]
    show n.val / 768 % 2 * 768 + n.val % 768 = 0 * 1536 + n.val
    omega

end Cert.KernelIdeal.Decoder

end
-- ==== Proof.Accum.lean ====
/- What the output block holds after each grid point, and what the output array holds at the end: the
   bias plus the products of all the blocks visited so far. -/
module

public import proofs.«01_k».proof.Proof.Body
public import proofs.«01_k».proof.Proof.Windows

@[expose] public section
set_option maxRecDepth 16384

noncomputable section

namespace Cert.KernelIdeal.Decoder

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The block products at point `t` are block `t`'s contribution. -/
theorem bothProds_iblk (c : Dev nD) (t : Fin cfg0.N) (i : S64x1536.Idx) :
    bothProds (iblk m c 0 t) (iblk m c 1 t) (iblk m c 2 t) i = blockTerm (feats m c) (weights m c) t.val i := by
  have h1 : (i 1).val < 1536 := (i 1).isLt
  unfold bothProds blockProd blockTerm
  refine Finset.sum_congr rfl fun k _ => ?_
  refine congrArg₂ (· * ·) (iblk0_apply m c t (i 0) k) ?_
  by_cases h : (i 1).val < 768
  · have e : layer (i 1).val = 0 := Fin.ext (show (i 1).val / 768 % 2 = 0 by omega)
    rw [if_pos h, e]
    exact iblk1_apply m c t k (layerCol (i 1).val)
  · have e : layer (i 1).val = 1 := Fin.ext (show (i 1).val / 768 % 2 = 1 by omega)
    rw [if_neg h, e]
    exact iblk2_apply m c t k (layerCol (i 1).val)

/-- After point `n` the output block holds the bias plus the contributions of blocks `0` to `n`. -/
theorem outs_eq (c : Dev nD) : ∀ (n : ℕ) (hn : n < cfg0.N),
    outsAt0 m c n hn = upTo (feats m c) (weights m c) (bias m c) (n + 1)
  | 0, hn => by
    refine (outsAt0_A m c ⟨0, hn⟩ rfl (Nat.not_succ_le_zero 0) rfl (Nat.not_succ_le_zero 0)).trans ?_
    rw [out_first]
    funext i
    rw [upTo_one, bothProds_iblk]
    exact congrArg (· + _) (iblk3_apply m c ⟨0, hn⟩ (i 1))
  | n + 1, hn => by
    have hN : n + 1 < 32 := point_lt ⟨n + 1, hn⟩
    have h0 : ¬(n + 1) % 32 = 0 := by omega
    have h1 : 1 ≤ n + 1 := Nat.succ_le_succ (Nat.zero_le n)
    refine (outsAt0_B m c ⟨n + 1, hn⟩ h0 h1 h0 h1).trans ?_
    rw [out_later]
    funext i
    rw [upTo_succ, bothProds_iblk]
    exact congrArg (· + _) (congrFun (outs_eq c n (Nat.lt_of_succ_lt hn)) i)

/-- The wide result, as contents of the output array. -/
abbrev wide (c : Dev nD) : Buf (Elt Ideal) ((c : Thread nD τ).loc main_call0_v1) :=
  upTo (feats m c) (weights m c) (bias m c) 32

/-- The last point, the only one that writes the output block back. -/
def lastPoint : Fin cfg0.N := ⟨31, lt_of_lt_of_eq (by decide) (show cfg0.N = 32 from N_0).symm⟩

/-- What it writes is the wide result. -/
theorem flushed_wide (c : Dev nD) (t : Fin cfg0.N) (hf : (cfg0.win 4).flush t = true) :
    (dats m 0 c).flushed 4 t = ((cfg0.win 4).blk t).view.read (Elt Ideal) (wide m c) := by
  have h31 : t.val = 31 := by have := (flush0_4 t).mp hf; have := point_lt t; omega
  obtain rfl : t = lastPoint := Fin.ext h31
  show (cfg0.win 4).cut (grid0.coords lastPoint) ((dats m 0 c).after 4 lastPoint) = _
  rw [after0_4, outs_eq]
  have hz : (fun a => win0_4.index lastPoint a * main_call0_v1.ty.shape.size a) = fun _ => 0 := funext fun a => by fin_cases a <;> decide +kernel
  exact (Memref.read_access_unit_zero (Elt Ideal) main_call0_v1 hz (fun a => by rw [congrFun hz a]; simp) (wide m c)).symm

/-- So the output array ends holding the wide result. -/
theorem final_wide (c : Dev nD) : (dats m 0 c).arrAt 4 cfg0.N = wide m c :=
  (dats m 0 c).arrAt_eq_of_cover 4 (wide m c) (flushed_wide m c) fun i =>
    ⟨lastPoint, (flush0_4 lastPoint).mpr rfl, by
      show i ∈ ((View.whole main_call0_v1).slice (win0_4.rect lastPoint)).set
      rw [View.set_slice_whole, Rect.mem_set_unit]
      intro a
      have h0 : (i 0 : Nat) < 64 := (i 0).isLt
      have h1 : (i 1 : Nat) < 1536 := (i 1).isLt
      match a with
      | ⟨0, _⟩ => show win0_4.index lastPoint 0 * win0_4.size 0 ≤ (i 0 : Nat) ∧ (i 0 : Nat) < win0_4.index lastPoint 0 * win0_4.size 0 + win0_4.xsize (grid0.coords lastPoint) 0
                  rw [show win0_4.index lastPoint 0 * win0_4.size 0 = 0 from by decide +kernel, show win0_4.xsize (grid0.coords lastPoint) 0 = 64 from by decide +kernel]; omega
      | ⟨1, _⟩ => show win0_4.index lastPoint 1 * win0_4.size 1 ≤ (i 1 : Nat) ∧ (i 1 : Nat) < win0_4.index lastPoint 1 * win0_4.size 1 + win0_4.xsize (grid0.coords lastPoint) 1
                  rw [show win0_4.index lastPoint 1 * win0_4.size 1 = 0 from by decide +kernel, show win0_4.xsize (grid0.coords lastPoint) 1 = 1536 from by decide +kernel]; omega⟩

end Cert.KernelIdeal.Decoder

end
-- ==== Proof.Run.lean ====
/- The kernel's run: it ends with the wide result cut into its two layers in the result array, and with
   its arguments unchanged. -/
module

public import proofs.«01_k».proof.Proof.Accum

@[expose] public section
set_option maxRecDepth 16384

noncomputable section

namespace Cert.KernelIdeal.Decoder

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The decoder's result as contents of the kernel's result array. -/
abbrev result (c : Dev nD) : Buf (Elt Ideal) ((c : Thread nD τ).loc main_v0) :=
  fun i => decoded (feats m c) (weights m c) (bias m c) (i 0) (i 1) (i 2)

/-- Cut into its two layers, the wide result is the decoder's. -/
theorem cut_wide (c : Dev nD) : shapeCast S64x2x768 (wide m c) shapeCasts_S64x1536_S64x2x768 = result m c := by
  funext i
  have h0 : (i 0).val < 64 := (i 0).isLt
  have h1 : (i 1).val < 2 := (i 1).isLt
  have h2 : (i 2).val < 768 := (i 2).isLt
  let n : Fin 1536 := ⟨(i 1).val * 768 + (i 2).val, by omega⟩
  have el : layer n.val = i 1 := Fin.ext (show ((i 1).val * 768 + (i 2).val) / 768 % 2 = (i 1).val by omega)
  have ed : layerCol n.val = i 2 := Fin.ext (show ((i 1).val * 768 + (i 2).val) % 768 = (i 2).val by omega)
  refine (shapeCast_apply (s := S64x1536) (t := S64x2x768) (wide m c) _ i (ix2 (i 0) n) ?_).trans ?_
  · rw [Shape.rowMajor_val_two, Shape.rowMajor_val_three]
    show (i 0).val * 1536 + ((i 1).val * 768 + (i 2).val) = ((i 0).val * 2 + (i 1).val) * 768 + (i 2).val
    omega
  · refine (upTo_all _ _ _ _).trans ?_
    show decoded _ _ _ (i 0) (layer n.val) (layerCol n.val) = decoded _ _ _ (i 0) (i 1) (i 2)
    rw [el, ed]

/-- The windows that share an array are inputs, so the array holds what it held when the grid started. -/
theorem shared_unchanged (c : Dev nD) : ∀ w w', w ≠ w' → Pipeline.arrRef spec0 w = Pipeline.arrRef spec0 w' →
    (dats m 0 c).arrAt w cfg0.N = V0 m c (Proc.devRef .tc (Pipeline.arrRef spec0 w)) :=
  (dats m 0 c).arrAt_sharedIn sharedIn0 (V0 m c) (A_eq m c) cfg0.N

/-- The host line that follows the grid puts the output array, recut, in the result array. -/
theorem reshaped (W : Valuation τ sig (Elt Ideal)) :
    StableHlo.after hostOps1 W (Proc.devRef .tc main_v0)
      = shapeCast S64x2x768 (W (Proc.devRef .tc main_call0_v1)) shapeCasts_S64x1536_S64x2x768 := by
  after_results
  rfl

/-- After the host line that follows the grid, the result array holds the decoder's result. -/
theorem tail_result (c : Dev nD) :
    Pipeline.afterTail₀ cfgs (dats m) 0 (V0 m) [hostOps1] c main_v0 = result m c := by
  rw [← cut_wide, ← final_wide]
  have h := Pipeline.withArrays_arr_shared spec0 c (V0 m c) (fun w => (dats m 0 c).arrAt w cfg0.N) (shared_unchanged m c) 4
  unfold Pipeline.afterTail₀
  refine Eq.trans ?_ (congrArg (fun x => shapeCast S64x2x768 x shapeCasts_S64x1536_S64x2x768) h)
  exact reshaped _

/-- The run, read: the result array at the decoder's result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v0 (Pipeline.mem_restRefs_of main_v0 (by decide) (by decide))).trans (tail_result m c), h.2 c⟩)
    (θ_run_and (run_main m ρ) (unchanged m ρ))

end Cert.KernelIdeal.Decoder

end
-- ==== Proof.RefValue.lean ====
/- What the reference computes, entry by entry: the decoder's result. -/
module

public import proofs.«01_k».proof.Proof.Gen.ReferenceIdeal.Read
public import proofs.«01_k».proof.Proof.Sums

@[expose] public section

noncomputable section

namespace Cert.ReferenceIdeal.Decoder

open Cert.ReferenceIdeal Cert.ReferenceIdeal.Gen Idealize.ShloMosaic
open Idealize.ShloMosaic.ValueIdx
open Cert.KernelIdeal.Decoder (decoded)

/-- The reference's result is, at every row, layer and column, the product summed over all features
    plus the bias. -/
theorem value_eq (x0 : Vec Ideal S64x65536 .f32) (x1 : Vec Ideal S2x65536x768 .f32) (x2 : Vec Ideal S2x768 .f32) :
    Read.val_main_v3 (F := Ideal) x0 x1 x2 = fun i => decoded x0 x1 x2 (i 0) (i 1) (i 2) := by
  funext i
  rw [Read.val_main_v3_apply, Read.val_main_v0_apply, Read.val_main_v2_apply, Read.val_main_v1_apply]
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
    | ⟨2, _⟩ => rfl
  · funext a
    match a with
    | ⟨0, _⟩ => rfl
    | ⟨1, _⟩ => rfl

end Cert.ReferenceIdeal.Decoder

end
-- ==== Proof.lean ====
/- The certificate of the dictionary decoder: the five claims of `Cert.Claim`, each a theorem of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Run
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed terminates without fault, keeps its arguments and leaves every counter at zero. -/
theorem frame_kernel : Cert.quiescent_Kernel := fun m ρ _ => Cert.Kernel.Gen.frame m ρ

/-- The kernel over the extended reals does too. -/
theorem frame_kernelIdeal : Cert.quiescent_KernelIdeal := fun m ρ _ => Cert.KernelIdeal.Gen.frame m ρ

/-- The reference over the extended reals terminates, keeps its arguments, and has no counter to leave off zero. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The ideal program is the kernel itself: nothing was rewritten. -/
theorem preserves_kernel : Cert.preserves_Kernel_KernelIdeal := trivial

/-- From the same arguments the kernel and the reference end with the same result: for every row, layer
    and column, the product of features and weights summed over all 65536 features, plus the bias. -/
theorem algebraic : Cert.algebraic_KernelIdeal_ReferenceIdeal := by
  intro m ρ m' ρ' _ hagree
  refine ⟨fun c => Cert.KernelIdeal.Decoder.result m c, Cert.KernelIdeal.Decoder.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hagree c
  rw [e0, e1, e2]
  exact Cert.ReferenceIdeal.Decoder.value_eq _ _ _

/-- All five claims. -/
theorem claim : Cert.Claim :=
  ⟨Cert.Kernel.Gen.facts, Cert.KernelIdeal.Gen.facts, Cert.ReferenceIdeal.Gen.facts,
    frame_kernel, frame_kernelIdeal, frame_referenceIdeal, preserves_kernel, algebraic⟩

end Cert.Proof

end
